-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_supported [hPre_supported : Cert.Pre_supported.Facts] (m : (ℓ : Loc Cert.KernelIdeal.nD Cert.KernelIdeal.τ Cert.KernelIdeal.sig) → Buf (Elt Ideal) ℓ) : Prop :=
  ∀ c : Dev Cert.KernelIdeal.nD,
    (Cert.Pre_supported.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_supported.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_supported.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_supported.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_supported.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_supported.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_supported.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_supported.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_supported [hPre_supported : Cert.Pre_supported.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_supported.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_supported.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_supported.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_supported.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_supported.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_supported.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_supported.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_supported.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_supported [hKernelIdeal : Cert.KernelIdeal.Facts] [hPre_supported : Cert.Pre_supported.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_supported m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_supported [hReferenceIdeal : Cert.ReferenceIdeal.Facts] [hPre_supported : Cert.Pre_supported.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_supported m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "rt" .f32 0x3ED96D27#32 ((Real.sqrt ((8 * (Real.log 2))⁻¹) : ℝ) : EReal)

def algebraic_KernelIdeal_ReferenceIdeal_pre_supported [hKernelIdeal : Cert.KernelIdeal.Facts] [hReferenceIdeal : Cert.ReferenceIdeal.Facts] [hPre_supported : Cert.Pre_supported.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_supported m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_supported : Cert.Pre_supported.Facts),
    quiescent_Kernel (hKernel := hKernel)
    ∧ quiescent_KernelIdeal (hKernelIdeal := hKernelIdeal)
    ∧ quiescent_KernelIdeal_pre_supported (hKernelIdeal := hKernelIdeal) (hPre_supported := hPre_supported)
    ∧ quiescent_ReferenceIdeal (hReferenceIdeal := hReferenceIdeal)
    ∧ quiescent_ReferenceIdeal_pre_supported (hReferenceIdeal := hReferenceIdeal) (hPre_supported := hPre_supported)
    ∧ preserves_Kernel_KernelIdeal
    ∧ algebraic_KernelIdeal_ReferenceIdeal_pre_supported (hKernelIdeal := hKernelIdeal) (hReferenceIdeal := hReferenceIdeal) (hPre_supported := hPre_supported)
-- ==== Pre_supported.lean ====
abbrev S8x4096x512 : Shape := ⟨3, ![8, 4096, 512]⟩
abbrev S8x512x512 : Shape := ⟨3, ![8, 512, 512]⟩
abbrev S8x4096 : Shape := ⟨2, ![8, 4096]⟩
abbrev S512x512 : Shape := ⟨2, ![512, 512]⟩
abbrev S512 : Shape := ⟨1, ![512]⟩
abbrev S_ : Shape := ⟨0, ![]⟩
abbrev S8x1 : Shape := ⟨2, ![8, 1]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  slices_S8x4096_S8x1_0_0 : S8x4096.Slices ![0, 0] S8x1
  bcast_S8x1_S8x4096_0_1 : S8x1.BroadcastsInDim S8x4096 (![0, 1] : Fin 2 → Fin S8x4096.rank)
  reducesTo_S8x4096_S_d0_1 : S8x4096.ReducesTo [0, 1] S_

variable [Facts]

def fn_part1 {F : FTy → Type} [FloatOps F] (main_arg2 : IVec S8x4096 1) (main_arg4 : FVec F S512 .f32) (main_arg6 : FVec F S512 .f32) (main_arg8 : FVec F S512 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 × IVec S_ 1 :=
  let main_v16 : FVec F S512 .f32 := Host.absf main_arg6
  let main_cst_6 : FVec F S_ .f32 := constant S_ .f32 0x7F800000#32
  let main_v17 : FVec F S512 .f32 := broadcastInDim S512 ![] bcast_S_S512 main_cst_6
  let main_v18 : IVec S512 1 := cmpf .olt main_v16 main_v17
  let main_c_7 : IVec S_ 1 := constantI S_ 1 1#1
  let main_v19 : IVec S_ 1 := (fun x v => Host.reduce IntOp.andi x v reducesTo_S512_S_d0 h_S_) main_v18 main_c_7
  let main_cst_8 : FVec F S_ .f32 := constant S_ .f32 0x00000000#32
  let main_v20 : FVec F S512 .f32 := broadcastInDim S512 ![] bcast_S_S512 main_cst_8
  let main_v21 : IVec S512 1 := cmpf .oeq main_arg4 main_v20
  let main_c_9 : IVec S_ 1 := constantI S_ 1 1#1
  let main_v22 : IVec S_ 1 := (fun x v => Host.reduce IntOp.andi x v reducesTo_S512_S_d0 h_S_) main_v21 main_c_9
  let main_cst_10 : FVec F S_ .f32 := constant S_ .f32 0x00000000#32
  let main_v23 : FVec F S512 .f32 := broadcastInDim S512 ![] bcast_S_S512 main_cst_10
  let main_v24 : IVec S512 1 := cmpf .oeq main_arg8 main_v23
  let main_c_11 : IVec S_ 1 := constantI S_ 1 1#1
  let main_v25 : IVec S_ 1 := (fun x v => Host.reduce IntOp.andi x v reducesTo_S512_S_d0 h_S_) main_v24 main_c_11
  let main_v26 : IVec S8x1 1 := (extractStridedSlice S8x1 ![0, 0] · slices_S8x4096_S8x1_0_0) main_arg2
  let main_v27 : IVec S8x4096 1 := broadcastInDim S8x4096 ![0, 1] bcast_S8x1_S8x4096_0_1 main_v26
  let main_v28 : IVec S8x4096 1 := cmpi .eq main_arg2 main_v27
  let main_c_12 : IVec S_ 1 := constantI S_ 1 1#1
  let main_v29 : IVec S_ 1 := (fun x v => Host.reduce IntOp.andi x v reducesTo_S8x4096_S_d0_1 h_S_) main_v28 main_c_12
  (main_v3, main_v7, main_v11, main_v15, main_v19, main_v22, main_v25, main_v29)

def fn {F : FTy → Type} [FloatOps F] (main_arg0 : FVec F S8x4096x512 .f32) (main_arg1 : FVec F S8x512x512 .f32) (main_arg2 : IVec S8x4096 1) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) : IVec S_ 1 × IVec S_ 1 × IVec S_ 1 × IVec S_ 1 × IVec S_ 1 × IVec S_ 1 × IVec S_ 1 × IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x512x512 .f32 := Host.absf main_arg1
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : FVec F S512x512 .f32 := Host.absf main_arg3
  let main_cst_2 : FVec F S_ .f32 := constant S_ .f32 0x7F800000#32
  let main_v9 : FVec F S512x512 .f32 := broadcastInDim S512x512 ![] bcast_S_S512x512 main_cst_2
  let main_v10 : IVec S512x512 1 := cmpf .olt main_v8 main_v9
  let main_c_3 : IVec S_ 1 := constantI S_ 1 1#1
  let main_v11 : IVec S_ 1 := (fun x v => Host.reduce IntOp.andi x v reducesTo_S512x512_S_d0_1 h_S_) main_v10 main_c_3
  let main_v12 : FVec F S512x512 .f32 := Host.absf main_arg5
  let main_cst_4 : FVec F S_ .f32 := constant S_ .f32 0x7F800000#32
  let main_v13 : FVec F S512x512 .f32 := broadcastInDim S512x512 ![] bcast_S_S512x512 main_cst_4
  let main_v14 : IVec S512x512 1 := cmpf .olt main_v12 main_v13
  let main_c_5 : IVec S_ 1 := constantI S_ 1 1#1
  let main_v15 : IVec S_ 1 := (fun x v => Host.reduce IntOp.andi x v reducesTo_S512x512_S_d0_1 h_S_) main_v14 main_c_5
  fn_part1 (F := F) main_arg2 main_arg4 main_arg6 main_arg8 main_v3 main_v7 main_v11 main_v15
-- ==== Kernel.lean ====
abbrev S8x4096x512 : Shape := ⟨3, ![8, 4096, 512]⟩
abbrev S8x512x512 : Shape := ⟨3, ![8, 512, 512]⟩
abbrev S8x4096 : Shape := ⟨2, ![8, 4096]⟩
abbrev S512x512 : Shape := ⟨2, ![512, 512]⟩
abbrev S512 : Shape := ⟨1, ![512]⟩
abbrev S1x512x512 : Shape := ⟨3, ![1, 512, 512]⟩
abbrev S2x256x512 : Shape := ⟨3, ![2, 256, 512]⟩
abbrev S2x512x512 : Shape := ⟨3, ![2, 512, 512]⟩
abbrev S1024x512 : Shape := ⟨2, ![1024, 512]⟩
abbrev S512x1024 : Shape := ⟨2, ![512, 1024]⟩
abbrev S1x512x1024 : Shape := ⟨3, ![1, 512, 1024]⟩
abbrev S1x512 : Shape := ⟨2, ![1, 512]⟩
abbrev S1x4096x512 : Shape := ⟨3, ![1, 4096, 512]⟩
abbrev S4096x512 : Shape := ⟨2, ![4096, 512]⟩
abbrev S1x512x256 : Shape := ⟨3, ![1, 512, 256]⟩
abbrev S512x256 : Shape := ⟨2, ![512, 256]⟩
abbrev S512x64 : Shape := ⟨2, ![512, 64]⟩
abbrev S4096x64 : Shape := ⟨2, ![4096, 64]⟩
abbrev S512x1 : Shape := ⟨2, ![512, 1]⟩
abbrev S256x64 : Shape := ⟨2, ![256, 64]⟩
abbrev S1x256x512 : Shape := ⟨3, ![1, 256, 512]⟩
abbrev S256x512 : Shape := ⟨2, ![256, 512]⟩

abbrev nBuf : Space → Nat
  | .hbm => 26
  | .vmem => 10
  | .smem => 0
  | _ => 0

abbrev bufTy : (tb : Table) → Fin (tcTables nBuf tb) → BufTy
  | .hbm, ⟨0, _⟩ => ⟨S8x4096x512, .f32⟩
  | .hbm, ⟨1, _⟩ => ⟨S8x512x512, .f32⟩
  | .hbm, ⟨2, _⟩ => ⟨S8x4096, .i1⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S8x4096x512, .bf16⟩
  | .hbm, ⟨12, _⟩ => ⟨S8x512x512, .bf16⟩
  | .hbm, ⟨13, _⟩ => ⟨S512x512, .f32⟩
  | .hbm, ⟨14, _⟩ => ⟨S1x512x512, .f32⟩
  | .hbm, ⟨15, _⟩ => ⟨S2x256x512, .f32⟩
  | .hbm, ⟨16, _⟩ => ⟨S2x256x512, .f32⟩
  | .hbm, ⟨17, _⟩ => ⟨S2x512x512, .f32⟩
  | .hbm, ⟨18, _⟩ => ⟨S1024x512, .f32⟩
  | .hbm, ⟨19, _⟩ => ⟨S512x1024, .f32⟩
  | .hbm, ⟨20, _⟩ => ⟨S1x512x1024, .f32⟩
  | .hbm, ⟨21, _⟩ => ⟨S512x512, .f32⟩
  | .hbm, ⟨22, _⟩ => ⟨S1x512x512, .f32⟩
  | .hbm, ⟨23, _⟩ => ⟨S1x512x512, .bf16⟩
  | .hbm, ⟨24, _⟩ => ⟨S1x512, .f32⟩
  | .hbm, ⟨25, _⟩ => ⟨S8x512x512, .f32⟩
  | .local _ .vmem, ⟨0, _⟩ => ⟨S1x512x512, .bf16⟩
  | .local _ .vmem, ⟨1, _⟩ => ⟨S1x512x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x512x512, .f32⟩
  | .local _ .vmem, ⟨5, _⟩ => ⟨S1x512x1024, .f32⟩
  | .local _ .vmem, ⟨6, _⟩ => ⟨S1x512x512, .bf16⟩
  | .local _ .vmem, ⟨7, _⟩ => ⟨S1x512, .f32⟩
  | .local _ .vmem, ⟨8, _⟩ => ⟨S1x512x512, .f32⟩
  | .local _ .vmem, ⟨9, _⟩ => ⟨S1x512x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "rt" => some ((Real.sqrt ((8 * (Real.log 2))⁻¹) : ℝ) : EReal)
  | _ => none
-- ==== ReferenceIdeal.lean ====
abbrev S8x4096x512 : Shape := ⟨3, ![8, 4096, 512]⟩
abbrev S8x512x512 : Shape := ⟨3, ![8, 512, 512]⟩
abbrev S8x4096 : Shape := ⟨2, ![8, 4096]⟩
abbrev S512x512 : Shape := ⟨2, ![512, 512]⟩
abbrev S512 : Shape := ⟨1, ![512]⟩
abbrev S1x1x512 : Shape := ⟨3, ![1, 1, 512]⟩
abbrev S8x512x8x64 : Shape := ⟨4, ![8, 512, 8, 64]⟩
abbrev S8x4096x8x64 : Shape := ⟨4, ![8, 4096, 8, 64]⟩
abbrev S8x8x512x4096 : Shape := ⟨4, ![8, 8, 512, 4096]⟩
abbrev S_ : Shape := ⟨0, ![]⟩
abbrev S8x1x1x4096 : Shape := ⟨4, ![8, 1, 1, 4096]⟩
abbrev S8x8x512 : Shape := ⟨3, ![8, 8, 512]⟩
abbrev S8x8x512x1 : Shape := ⟨4, ![8, 8, 512, 1]⟩
abbrev S8x8x64x512 : Shape := ⟨4, ![8, 8, 64, 512]⟩

abbrev nBuf : Space → Nat
  | .hbm => 65
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x512x512, .f32⟩
  | .hbm, ⟨2, _⟩ => ⟨S8x4096, .i1⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S8x512x512, .f32⟩
  | .hbm, ⟨13, _⟩ => ⟨S1x1x512, .f32⟩
  | .hbm, ⟨14, _⟩ => ⟨S8x512x512, .f32⟩
  | .hbm, ⟨15, _⟩ => ⟨S8x512x512, .f32⟩
  | .hbm, ⟨16, _⟩ => ⟨S8x512x8x64, .f32⟩
  | .hbm, ⟨17, _⟩ => ⟨S512x512, .f32⟩
  | .hbm, ⟨18, _⟩ => ⟨S8x4096x512, .f32⟩
  | .hbm, ⟨19, _⟩ => ⟨S1x1x512, .f32⟩
  | .hbm, ⟨20, _⟩ => ⟨S8x4096x512, .f32⟩
  | .hbm, ⟨21, _⟩ => ⟨S8x4096x512, .f32⟩
  | .hbm, ⟨22, _⟩ => ⟨S8x4096x8x64, .f32⟩
  | .hbm, ⟨23, _⟩ => ⟨S512x512, .f32⟩
  | .hbm, ⟨24, _⟩ => ⟨S8x4096x512, .f32⟩
  | .hbm, ⟨25, _⟩ => ⟨S1x1x512, .f32⟩
  | .hbm, ⟨26, _⟩ => ⟨S8x4096x512, .f32⟩
  | .hbm, ⟨27, _⟩ => ⟨S8x4096x512, .f32⟩
  | .hbm, ⟨28, _⟩ => ⟨S8x4096x8x64, .f32⟩
  | .hbm, ⟨29, _⟩ => ⟨S8x8x512x4096, .f32⟩
  | .hbm, ⟨30, _⟩ => ⟨S_, .f32⟩
  | .hbm, ⟨31, _⟩ => ⟨S8x8x512x4096, .f32⟩
  | .hbm, ⟨32, _⟩ => ⟨S8x8x512x4096, .f32⟩
  | .hbm, ⟨33, _⟩ => ⟨S8x4096, .f32⟩
  | .hbm, ⟨34, _⟩ => ⟨S_, .f32⟩
  | .hbm, ⟨35, _⟩ => ⟨S8x4096, .f32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S8x4096, .f32⟩
  | .hbm, ⟨40, _⟩ => ⟨S8x1x1x4096, .f32⟩
  | .hbm, ⟨41, _⟩ => ⟨S8x8x512x4096, .f32⟩
  | .hbm, ⟨42, _⟩ => ⟨S8x8x512x4096, .f32⟩
  | .hbm, ⟨43, _⟩ => ⟨S_, .f32⟩
  | .hbm, ⟨44, _⟩ => ⟨S8x8x512, .f32⟩
  | .hbm, ⟨45, _⟩ => ⟨S_, .f32⟩
  | .hbm, ⟨46, _⟩ => ⟨S8x8x512, .f32⟩
  | .hbm, ⟨47, _⟩ => ⟨S8x8x512, .f32⟩
  | .hbm, ⟨48, _⟩ => ⟨S8x8x512x1, .f32⟩
  | .hbm, ⟨49, _⟩ => ⟨S8x8x512x4096, .f32⟩
  | .hbm, ⟨50, _⟩ => ⟨S8x8x512x4096, .f32⟩
  | .hbm, ⟨51, _⟩ => ⟨S8x8x512x4096, .f32⟩
  | .hbm, ⟨52, _⟩ => ⟨S_, .f32⟩
  | .hbm, ⟨53, _⟩ => ⟨S8x8x512, .f32⟩
  | .hbm, ⟨54, _⟩ => ⟨S8x8x512x1, .f32⟩
  | .hbm, ⟨55, _⟩ => ⟨S8x8x512x4096, .f32⟩
  | .hbm, ⟨56, _⟩ => ⟨S8x8x512x4096, .f32⟩
  | .hbm, ⟨57, _⟩ => ⟨S8x8x64x512, .f32⟩
  | .hbm, ⟨58, _⟩ => ⟨S8x512x8x64, .f32⟩
  | .hbm, ⟨59, _⟩ => ⟨S8x512x512, .f32⟩
  | .hbm, ⟨60, _⟩ => ⟨S512x512, .f32⟩
  | .hbm, ⟨61, _⟩ => ⟨S8x512x512, .f32⟩
  | .hbm, ⟨62, _⟩ => ⟨S1x1x512, .f32⟩
  | .hbm, ⟨63, _⟩ => ⟨S8x512x512, .f32⟩
  | .hbm, ⟨64, _⟩ => ⟨S8x512x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== Proof.Block.lean ====
/- What one grid point leaves in the output block, written once per head instead of once per chunk: the printed
   body runs eight heads of sixteen chunks each, and this file states one head as a recursion over its chunks and
   shows that the generated description of the block is built of eight such heads. -/
module

public import proofs.«01_k».proof.Proof.Gen.KernelIdeal.Frame

@[expose] public section

set_option maxRecDepth 16384

noncomputable section

namespace Cert.KernelIdeal.Hand

open Cert.KernelIdeal Cert.KernelIdeal.Gen Idealize.ShloMosaic Idealize.SL.Sem

variable {F : FTy → Type} [FloatOps F] [Named F]

/-- Rows `256 i … 256 i + 255` lie inside the 4096 rows of a head's keys or values, for each of sixteen chunks. -/
theorem chunk_slices (i : ℕ) (hi : i < 16) : S4096x64.Slices ![256 * i, 0] S256x64 := by
  refine ⟨rfl, fun a => ?_⟩
  match a with
  | ⟨0, _⟩ => show 256 * i + 256 ≤ 4096; omega
  | ⟨1, _⟩ => show 0 + 64 ≤ 64; omega

/-- Chunk `i` of a head's keys or values. -/
def chunk (x : FVec F S4096x64 .bf16) (i : ℕ) (hi : i < 16) : FVec F S256x64 .bf16 :=
  extractStridedSlice S256x64 ![256 * i, 0] x (chunk_slices i hi)

/-- The unnormalised weights of chunk `i`: two to the power of the scores. -/
def weights (q : FVec F S512x64 .bf16) (k : FVec F S4096x64 .bf16) (i : ℕ) (hi : i < 16) : FVec F S512x256 .f32 :=
  exp2 (matmul dot_S512x64_S256x64_S512x256_1_1_0_0_n_n none q (chunk k i hi) (constant S512x256 .f32 0x00000000#32))

/-- The row sums of the weights over the first `n` chunks. -/
def denom (q : FVec F S512x64 .bf16) (k : FVec F S4096x64 .bf16) : (n : ℕ) → n ≤ 16 → FVec F S512x1 .f32
  | 0, _ => broadcast S512x1 (Scalar.ofBits .f32 0x00000000#32)
  | n + 1, h => addf (denom q k n (Nat.le_of_succ_le h))
      (shapeCast S512x1 (multiReduction .add [1] S512 (weights q k n h) 0x00000000#32 reduces_S512x256_S512 (.inl rfl) rfl)
        shapeCasts_S512_S512x1)

/-- The weighted sums of the value rows over the first `n` chunks. -/
def numer (q : FVec F S512x64 .bf16) (k v : FVec F S4096x64 .bf16) : (n : ℕ) → n ≤ 16 → FVec F S512x64 .f32
  | 0, _ => broadcast S512x64 (Scalar.ofBits .f32 0x00000000#32)
  | n + 1, h => addf (numer q k v n (Nat.le_of_succ_le h))
      (matmul dot_S512x256_S256x64_S512x64_1_0_0_1_n_n none (truncf .bf16 (weights q k n h) bitsLt_bf16_f32) (chunk v n h)
        (constant S512x64 .f32 0x00000000#32))

/-- One head: the weighted mean of the value rows. -/
def head (q : FVec F S512x64 .bf16) (k v : FVec F S4096x64 .bf16) : FVec F S512x64 .bf16 :=
  truncf .bf16 (divf (numer q k v 16 (Nat.le_refl 16))
    (broadcastTo S512x64 (denom q k 16 (Nat.le_refl 16)) broadcasts_S512x1_S512x64)) bitsLt_bf16_f32

/-- The four heads of one group of columns, side by side, from the group's queries and its keys and values. -/
def heads (q : FVec F S512x256 .bf16) (kv : FVec F S4096x512 .bf16) : FVec F S512x256 .bf16 :=
  concatenate S512x256 1
    [⟨S512x64, head (extractStridedSlice S512x64 ![0, 0] q slices_S512x256_o0_0_S512x64)
      (extractStridedSlice S4096x64 ![0, 0] kv slices_S4096x512_o0_0_S4096x64)
      (extractStridedSlice S4096x64 ![0, 256] kv slices_S4096x512_o0_256_S4096x64)⟩,
     ⟨S512x64, head (extractStridedSlice S512x64 ![0, 64] q slices_S512x256_o0_64_S512x64)
      (extractStridedSlice S4096x64 ![0, 64] kv slices_S4096x512_o0_64_S4096x64)
      (extractStridedSlice S4096x64 ![0, 320] kv slices_S4096x512_o0_320_S4096x64)⟩,
     ⟨S512x64, head (extractStridedSlice S512x64 ![0, 128] q slices_S512x256_o0_128_S512x64)
      (extractStridedSlice S4096x64 ![0, 128] kv slices_S4096x512_o0_128_S4096x64)
      (extractStridedSlice S4096x64 ![0, 384] kv slices_S4096x512_o0_384_S4096x64)⟩,
     ⟨S512x64, head (extractStridedSlice S512x64 ![0, 192] q slices_S512x256_o0_192_S512x64)
      (extractStridedSlice S4096x64 ![0, 192] kv slices_S4096x512_o0_192_S4096x64)
      (extractStridedSlice S4096x64 ![0, 448] kv slices_S4096x512_o0_448_S4096x64)⟩]
    concatenates_S512x64_S512x64_S512x64_S512x64_S512x256_d1

/-- One group's share of the output projection. -/
def part (q : FVec F S512x256 .bf16) (kv : FVec F S4096x512 .bf16) (wo : Vec F S1x256x512 .bf16) : FVec F S512x512 .f32 :=
  matmul dot_S512x256_S256x512_S512x512_1_0_0_1_n_n none (heads q kv) (shapeCast S256x512 wo shapeCasts_S1x256x512_S256x512)
    (constant S512x512 .f32 0x00000000#32)

/-- The output block from the blocks of the targets, the inputs, the three weight arrays and the bias. -/
def block (x0 : Vec F S1x512x512 .bf16) (x1 : Vec F S1x4096x512 .bf16) (x2 : Vec F S1x512x512 .f32) (x3 : Vec F S1x512x1024 .f32)
    (x4 : Vec F S1x512x512 .bf16) (x5 : Vec F S1x512 .f32) : FVec F S1x512x512 .f32 :=
  k0_pay1
    (addf
      (part (k0_pay4 (View.ld x0 r0_0) (View.ld x2 r0_2)) (k0_pay5 (View.ld x1 r0_1) (View.ld x3 r0_3)) (View.ld x4 r0_4))
      (part (k0_pay4 (View.ld x0 r0_0) (View.ld x2 r0_5)) (k0_pay5 (View.ld x1 r0_1) (View.ld x3 r0_6)) (View.ld x4 r0_7)))
    (k0_pay235 (View.ld x5 r0_8))

/-- The generated output block is the one written with heads and chunks. -/
theorem out0_6_eq (x0 : Vec F S1x512x512 .bf16) (x1 : Vec F S1x4096x512 .bf16) (x2 : Vec F S1x512x512 .f32)
    (x3 : Vec F S1x512x1024 .f32) (x4 : Vec F S1x512x512 .bf16) (x5 : Vec F S1x512 .f32) :
    out0_6 x0 x1 x2 x3 x4 x5 = View.canon [⟨r0_0, block x0 x1 x2 x3 x4 x5⟩] := by
  rfl

end Cert.KernelIdeal.Hand

end
-- ==== Proof.Head.lean ====
/- The value of one head, and of the four heads of a group of columns, element by element at the extended reals:
   the sixteen chunks' sums are put together into one sum over all 4096 rows. -/
module

public import proofs.«01_k».proof.Proof.Block
public import Idealize.ShloMosaic.Lib.Pointwise

@[expose] public section

set_option maxRecDepth 16384

noncomputable section

namespace Cert.KernelIdeal.Hand

open Cert.KernelIdeal Cert.KernelIdeal.Gen Idealize.ShloMosaic Idealize.SL.Sem

/-- A weight of chunk `i` is two to the power of the score of row `256 i + s`. -/
theorem weights_apply (q : FVec Ideal S512x64 .bf16) (k : FVec Ideal S4096x64 .bf16) (i : ℕ) (hi : i < 16) (t : Fin 512) (s : Fin 256) :
    weights q k i hi (ix2 t s) = Ideal.exp2 (∑ e : Fin 64, q (ix2 t e) * k (ix2 ⟨256 * i + s, by omega⟩ e)) := by
  pointwise [weights, chunk]
  rfl

/-- The weight of row `s` for query `t`, and zero past the last row. -/
def weightAt (q : FVec Ideal S512x64 .bf16) (k : FVec Ideal S4096x64 .bf16) (t : Fin 512) (s : ℕ) : EReal :=
  if h : s < 4096 then Ideal.exp2 (∑ e : Fin 64, q (ix2 t e) * k (ix2 ⟨s, h⟩ e)) else 0

/-- Element `d` of value row `s`, and zero past the last row. -/
def valueAt (v : FVec Ideal S4096x64 .bf16) (d : Fin 64) (s : ℕ) : EReal :=
  if h : s < 4096 then v (ix2 ⟨s, h⟩ d) else 0

/-- The weights' row sum over the first `n` chunks is the sum over the first `256 n` rows. -/
theorem denom_apply (q : FVec Ideal S512x64 .bf16) (k : FVec Ideal S4096x64 .bf16) (t : Fin 512) (n : ℕ) (h : n ≤ 16) :
    denom q k n h (ix2 t 0) = ∑ s ∈ Finset.range (256 * n), weightAt q k t s := by
  induction n with
  | zero =>
    rw [denom]
    pointwise
    rfl
  | succ n ih =>
    rw [denom]
    pointwise
    rw [ih (Nat.le_of_succ_le h), Nat.mul_succ, Finset.sum_range_add, Finset.sum_range (n := 256)]
    refine congrArg _ (Finset.sum_congr rfl fun s _ => ?_)
    rw [weights_apply, weightAt, dif_pos (by omega)]

/-- The weighted sum of the value rows over the first `n` chunks is the sum over the first `256 n` rows. -/
theorem numer_apply (q : FVec Ideal S512x64 .bf16) (k v : FVec Ideal S4096x64 .bf16) (t : Fin 512) (d : Fin 64) (n : ℕ) (h : n ≤ 16) :
    numer q k v n h (ix2 t d) = ∑ s ∈ Finset.range (256 * n), weightAt q k t s * valueAt v d s := by
  induction n with
  | zero =>
    rw [numer]
    pointwise
    rfl
  | succ n ih =>
    rw [numer]
    pointwise [chunk]
    rw [ih (Nat.le_of_succ_le h), Nat.mul_succ, Finset.sum_range_add, Finset.sum_range (n := 256)]
    refine congrArg _ (Finset.sum_congr rfl fun s _ => ?_)
    rw [weights_apply, weightAt, valueAt, dif_pos (by omega), dif_pos (by omega)]

/-- A sum over sixteen chunks of 256 rows is the sum over the 4096 rows. -/
theorem sum_rows (f : ℕ → EReal) : ∑ s ∈ Finset.range (256 * 16), f s = ∑ s : Fin 4096, f s := by
  rw [show 256 * 16 = 4096 by norm_num, Finset.sum_range]

/-- The mean of the values `v` under the weights two to the power of the scores `sc`. -/
def mean (sc v : Fin 4096 → EReal) : EReal :=
  Ideal.div (∑ s, Ideal.exp2 (sc s) * v s) (∑ s, Ideal.exp2 (sc s))

/-- One head is the mean of its value rows under the weights of its scores. -/
theorem head_apply (q : FVec Ideal S512x64 .bf16) (k v : FVec Ideal S4096x64 .bf16) (t : Fin 512) (d : Fin 64) :
    head q k v (ix2 t d) = mean (fun s => ∑ e : Fin 64, q (ix2 t e) * k (ix2 s e)) (fun s => v (ix2 s d)) := by
  rw [head]
  pointwise
  rw [numer_apply, denom_apply, sum_rows, sum_rows, mean]
  simp only [weightAt, valueAt, Fin.is_lt, dif_pos, Fin.eta]

/-- A head's mean depends on its columns only through their positions. -/
theorem mean_cols (q : FVec Ideal S512x256 .bf16) (kv : FVec Ideal S4096x512 .bf16) (t : Fin 512) {a a' : Fin 64 → Fin 256}
    {b b' : Fin 64 → Fin 512} {o o' : Fin 512} (ha : ∀ e, (a e : ℕ) = a' e) (hb : ∀ e, (b e : ℕ) = b' e) (ho : (o : ℕ) = o') :
    mean (fun s => ∑ e : Fin 64, q (ix2 t (a e)) * kv (ix2 s (b e))) (fun s => kv (ix2 s o)) =
      mean (fun s => ∑ e : Fin 64, q (ix2 t (a' e)) * kv (ix2 s (b' e))) (fun s => kv (ix2 s o')) := by
  obtain rfl : a = a' := funext fun e => Fin.ext (ha e)
  obtain rfl : b = b' := funext fun e => Fin.ext (hb e)
  obtain rfl : o = o' := Fin.ext ho
  rfl

/-- The group's heads side by side: column `j` belongs to head `j / 64`, whose scores are over that head's 64 columns of the
    queries and the keys; the values stand 256 columns to the right of the keys. -/
theorem heads_apply (q : FVec Ideal S512x256 .bf16) (kv : FVec Ideal S4096x512 .bf16) (t : Fin 512) (j : Fin 256) :
    heads q kv (ix2 t j) =
      mean (fun s => ∑ e : Fin 64, q (ix2 t ⟨64 * (j / 64) + e, by omega⟩) * kv (ix2 s ⟨64 * (j / 64) + e, by omega⟩))
        (fun s => kv (ix2 s ⟨256 + j, by omega⟩)) := by
  pointwise [heads, head_apply]
  split
  · exact mean_cols q kv t (a := fun e => ⟨(e : ℕ), by omega⟩) (b := fun e => ⟨(e : ℕ), by omega⟩)
      (fun e => by dsimp only; omega) (fun e => by dsimp only; omega) rfl
  split
  · exact mean_cols q kv t (a := fun e => ⟨64 + (e : ℕ), by omega⟩) (b := fun e => ⟨64 + (e : ℕ), by omega⟩)
      (o := ⟨320 + ((j : ℕ) - 64), by omega⟩) (fun e => by dsimp only; omega) (fun e => by dsimp only; omega) (by dsimp only; omega)
  split
  · exact mean_cols q kv t (a := fun e => ⟨128 + (e : ℕ), by omega⟩) (b := fun e => ⟨128 + (e : ℕ), by omega⟩)
      (o := ⟨384 + ((j : ℕ) - 64 - 64), by omega⟩) (fun e => by dsimp only; omega) (fun e => by dsimp only; omega)
      (by dsimp only; omega)
  · exact mean_cols q kv t (a := fun e => ⟨192 + (e : ℕ), by omega⟩) (b := fun e => ⟨192 + (e : ℕ), by omega⟩)
      (o := ⟨448 + ((j : ℕ) - 64 - 64 - 64), by omega⟩) (fun e => by dsimp only; omega) (fun e => by dsimp only; omega)
      (by dsimp only; omega)

end Cert.KernelIdeal.Hand

end
-- ==== Proof.Softmax.lean ====
/- Softmax without its shift: a mean weighted by powers of two is the softmax-weighted mean of shifted scores. -/
module

public import proofs.«01_k».proof.Proof.Head

@[expose] public section

noncomputable section

namespace Cert.KernelIdeal.Hand

open Idealize.ShloMosaic

/-- A finite sum of reals is the same among the extended reals. -/
theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- A real factor that is not negative goes into a sum of extended reals. -/
theorem sum_mul_coe {ι : Type*} (s : Finset ι) (f : ι → EReal) {r : ℝ} (hr : 0 ≤ r) :
    (∑ i ∈ s, f i) * (r : EReal) = ∑ i ∈ s, f i * (r : EReal) := by
  induction s using Finset.cons_induction with
  | empty => simp
  | cons a s ha ih =>
    rw [Finset.sum_cons, Finset.sum_cons, ← ih,
      EReal.right_distrib_of_nonneg_of_ne_top (EReal.coe_nonneg.2 hr) (EReal.coe_ne_top r)]

/-- The root that scales both projections: its square is one over eight times the logarithm of two. -/
def rt : ℝ := Real.sqrt ((8 * Real.log 2)⁻¹)

/-- The root's square times the logarithm of two is an eighth. -/
theorem rt_sq : rt * rt * Real.log 2 = 1 / 8 := by
  have h : 0 < Real.log 2 := Real.log_pos (by norm_num)
  unfold rt
  rw [Real.mul_self_sqrt (by positivity)]
  field_simp

/-- Two to a score scaled by the root's square is the exponential of an eighth of the score. -/
theorem exp2_scaled (σ : ℝ) : Ideal.exp2 ((rt * rt * σ : ℝ) : EReal) = ((Real.exp (σ / 8) : ℝ) : EReal) := by
  rw [Ideal.exp2_coe]
  congr 1
  show (2 : ℝ) ^ (rt * rt * σ) = _
  rw [Real.rpow_def_of_pos (by norm_num)]
  congr 1
  linear_combination σ * rt_sq

/-- A mean weighted by exponentials is unchanged when every score is shifted by one real and the weights are divided by
    their sum one at a time. -/
theorem softmax_shift {n : ℕ} (hn : 0 < n) (a : Fin n → ℝ) (c : ℝ) (v : Fin n → EReal) :
    Ideal.div (∑ s, ((Real.exp (a s) : ℝ) : EReal) * v s) (∑ s, ((Real.exp (a s) : ℝ) : EReal)) =
      ∑ s, v s * Ideal.div ((Real.exp (a s + c) : ℝ) : EReal) (∑ s', ((Real.exp (a s' + c) : ℝ) : EReal)) := by
  have hne : (Finset.univ : Finset (Fin n)).Nonempty := ⟨⟨0, hn⟩, Finset.mem_univ _⟩
  have hD : 0 < ∑ s, Real.exp (a s) := Finset.sum_pos (fun s _ => Real.exp_pos _) hne
  have hD' : 0 < ∑ s, Real.exp (a s + c) := Finset.sum_pos (fun s _ => Real.exp_pos _) hne
  have e : ∑ s, Real.exp (a s + c) = (∑ s, Real.exp (a s)) * Real.exp c := by
    rw [Finset.sum_mul]; exact Finset.sum_congr rfl fun s _ => Real.exp_add _ _
  rw [← coe_sum, ← coe_sum, Ideal.div_coe hD.ne', sum_mul_coe _ _ (by positivity)]
  refine Finset.sum_congr rfl fun s _ => ?_
  rw [Ideal.div_coe hD'.ne', ← EReal.coe_mul, mul_comm _ (v s), mul_assoc, ← EReal.coe_mul, e, Real.exp_add]
  congr 2
  have := Real.exp_pos c
  field_simp

/-- The kernel's mean, whose scores carry the root's square, is the softmax-weighted mean of an eighth of the scores plus
    one real, less any real. -/
theorem mean_eq_softmax (σ : Fin 4096 → ℝ) (sc S : Fin 4096 → EReal) (δ M : ℝ) (v : Fin 4096 → EReal)
    (hsc : ∀ s, sc s = ((rt * rt * σ s : ℝ) : EReal)) (hS : ∀ s, S s = ((σ s / 8 + δ : ℝ) : EReal)) :
    mean sc v = ∑ s, v s * Ideal.div (Ideal.exp (S s - (M : EReal))) (∑ s', Ideal.exp (S s' - (M : EReal))) := by
  have h1 : ∀ s, Ideal.exp2 (sc s) = ((Real.exp (σ s / 8) : ℝ) : EReal) := fun s => by rw [hsc, exp2_scaled]
  have h2 : ∀ s, Ideal.exp (S s - (M : EReal)) = ((Real.exp (σ s / 8 + (δ - M)) : ℝ) : EReal) := fun s => by
    rw [hS, ← EReal.coe_sub, Ideal.exp_coe, add_sub_assoc]
  unfold mean
  simp only [h1, h2]
  exact softmax_shift (by norm_num) _ _ v

end Cert.KernelIdeal.Hand
-- ==== Proof.Projection.lean ====
/- The value of one output block, element by element at the extended reals, as a function of the arrays its windows hold. -/
module

public import proofs.«01_k».proof.Proof.Softmax

@[expose] public section

set_option maxRecDepth 16384

noncomputable section

namespace Cert.KernelIdeal.Hand

open Cert.KernelIdeal Cert.KernelIdeal.Gen Idealize.ShloMosaic Idealize.SL.Sem

/-- Column `e` of the head that column `n` belongs to. -/
def headCol (n : Fin 512) (e : Fin 64) : Fin 512 := ⟨64 * (n / 64) + e, by omega⟩

/-- One query's mean of the value rows in column `n`, from the targets, the inputs and the three weight matrices (rows by
    output column), both score projections scaled by `κ`. -/
def attend (κ : EReal) (T : Fin 512 → EReal) (X : Fin 4096 → Fin 512 → EReal) (Wq Wk Wv : Fin 512 → Fin 512 → EReal) (n : Fin 512) :
    EReal :=
  mean (fun s => ∑ e : Fin 64, (∑ f, T f * (Wq (headCol n e) f * κ)) * (∑ f, X s f * (Wk (headCol n e) f * κ)))
    (fun s => ∑ f, X s f * Wv n f)

/-- The kernel's named constant is the root. -/
theorem named_rt : Named.named (F := Ideal) Cert.KernelIdeal.κ "rt" (φ := .f32) 0x3ED96D27#32 = (rt : EReal) :=
  IdealRules.named_const.ideal_named_scalar _ _ _ _ rfl

/-- The scaled queries of a group of columns. -/
theorem queries_apply (x : Vec Ideal S1x512x512 .bf16) (w : Vec Ideal S1x512x256 .f32) (t : Fin 512) (j : Fin 256) :
    k0_pay4 x w (ix2 t j) = ∑ f : Fin 512, x (ix3 0 t f) * (w (ix3 0 f j) * (rt : EReal)) := by
  pointwise [k0_pay4, k0_pay2]
  rw [← named_rt]

/-- The scaled keys of a group of columns. -/
theorem keys_apply (x : Vec Ideal S1x4096x512 .bf16) (w : Vec Ideal S1x512x512 .f32) (s : Fin 4096) (j : Fin 512) (h : (j : ℕ) < 256) :
    k0_pay5 x w (ix2 s j) = ∑ f : Fin 512, x (ix3 0 s f) * (w (ix3 0 f j) * (rt : EReal)) := by
  pointwise [k0_pay5, k0_pay3]
  simp only [h, dif_pos]
  rw [← named_rt]

/-- The values of a group of columns, which stand to the right of its keys. -/
theorem values_apply (x : Vec Ideal S1x4096x512 .bf16) (w : Vec Ideal S1x512x512 .f32) (s : Fin 4096) (j : Fin 256) :
    k0_pay5 x w (ix2 s ⟨256 + j, by omega⟩) = ∑ f : Fin 512, x (ix3 0 s f) * w (ix3 0 f ⟨256 + j, by omega⟩) := by
  pointwise [k0_pay5, k0_pay3]

/-- A group's share of the output: its 256 columns' means times their rows of the output weights. -/
theorem part_apply (q : FVec Ideal S512x256 .bf16) (kv : FVec Ideal S4096x512 .bf16) (wo : Vec Ideal S1x256x512 .bf16) (t c : Fin 512) :
    part q kv wo (ix2 t c) = ∑ j : Fin 256, heads q kv (ix2 t j) * wo (ix3 0 j c) := by
  pointwise [part]

/-- Columns `256 g … 256 g + 255` of the attention, from a group's blocks. -/
theorem group_apply (T : Fin 512 → Fin 512 → EReal) (X : Fin 4096 → Fin 512 → EReal) (Wq Wk Wv : Fin 512 → Fin 512 → EReal)
    (g : ℕ) (hg : g < 2) (x0 : Vec Ideal S1x512x512 .bf16) (x1 : Vec Ideal S1x4096x512 .bf16)
    (wq : Vec Ideal S1x512x256 .f32) (wkv : Vec Ideal S1x512x512 .f32)
    (h0 : ∀ t f, x0 (ix3 0 t f) = T t f) (h1 : ∀ s f, x1 (ix3 0 s f) = X s f)
    (hq : ∀ f (j : Fin 256), wq (ix3 0 f j) = Wq ⟨256 * g + j, by omega⟩ f)
    (hk : ∀ f (j : Fin 256), wkv (ix3 0 f ⟨j, by omega⟩) = Wk ⟨256 * g + j, by omega⟩ f)
    (hv : ∀ f (j : Fin 256), wkv (ix3 0 f ⟨256 + j, by omega⟩) = Wv ⟨256 * g + j, by omega⟩ f) (t : Fin 512) (j : Fin 256) :
    heads (k0_pay4 x0 wq) (k0_pay5 x1 wkv) (ix2 t j) =
      attend (rt : EReal) (T t) X Wq Wk Wv ⟨256 * g + j, by omega⟩ := by
  have hc : ∀ e : Fin 64, headCol ⟨256 * g + j, by omega⟩ e = ⟨256 * g + (64 * (j / 64) + e), by omega⟩ := fun e =>
    Fin.ext (by dsimp only [headCol]; omega)
  rw [heads_apply, attend]
  congr 1
  · funext s
    refine Finset.sum_congr rfl fun e _ => ?_
    rw [queries_apply, keys_apply _ _ _ _ (by dsimp only; omega), hc]
    congr 1
    · exact Finset.sum_congr rfl fun f _ => by rw [h0, hq]
    · refine Finset.sum_congr rfl fun f _ => ?_
      rw [h1, ← hk f ⟨64 * (j / 64) + e, by omega⟩]
  · funext s
    rw [values_apply]
    exact Finset.sum_congr rfl fun f _ => by rw [h1, hv]

/-- A group's share of one output element, as a sum over its columns of the attention. -/
theorem group_sum (T : Fin 512 → Fin 512 → EReal) (X : Fin 4096 → Fin 512 → EReal) (Wq Wk Wv Wo : Fin 512 → Fin 512 → EReal)
    (g : ℕ) (hg : g < 2) (x0 : Vec Ideal S1x512x512 .bf16) (x1 : Vec Ideal S1x4096x512 .bf16)
    (wq : Vec Ideal S1x512x256 .f32) (wkv : Vec Ideal S1x512x512 .f32) (wo : Vec Ideal S1x256x512 .bf16)
    (h0 : ∀ t f, x0 (ix3 0 t f) = T t f) (h1 : ∀ s f, x1 (ix3 0 s f) = X s f)
    (hq : ∀ f (j : Fin 256), wq (ix3 0 f j) = Wq ⟨256 * g + j, by omega⟩ f)
    (hk : ∀ f (j : Fin 256), wkv (ix3 0 f ⟨j, by omega⟩) = Wk ⟨256 * g + j, by omega⟩ f)
    (hv : ∀ f (j : Fin 256), wkv (ix3 0 f ⟨256 + j, by omega⟩) = Wv ⟨256 * g + j, by omega⟩ f)
    (ho : ∀ (j : Fin 256) c, wo (ix3 0 j c) = Wo c ⟨256 * g + j, by omega⟩) (t c : Fin 512) :
    part (k0_pay4 x0 wq) (k0_pay5 x1 wkv) wo (ix2 t c) =
      ∑ j : Fin 256, attend (rt : EReal) (T t) X Wq Wk Wv ⟨256 * g + j, by omega⟩ * Wo c ⟨256 * g + j, by omega⟩ := by
  rw [part_apply]
  exact Finset.sum_congr rfl fun j _ => by rw [group_apply T X Wq Wk Wv g hg x0 x1 wq wkv h0 h1 hq hk hv, ho]

/-- A sum over 512 columns is the sum over the two groups of 256. -/
theorem sum_groups (f : Fin 512 → EReal) :
    ∑ j : Fin 256, f ⟨256 * 0 + j, by omega⟩ + ∑ j : Fin 256, f ⟨256 * 1 + j, by omega⟩ = ∑ n, f n := by
  rw [Fin.sum_univ_two_halves 256 256 rfl f]
  refine congrArg₂ _ (Finset.sum_congr rfl fun j _ => congrArg f (Fin.ext ?_)) (Finset.sum_congr rfl fun j _ => congrArg f (Fin.ext ?_))
  · dsimp only; omega
  · dsimp only

/-- The block is the sum of the two groups' shares and the bias. -/
theorem block_split (x0 : Vec Ideal S1x512x512 .bf16) (x1 : Vec Ideal S1x4096x512 .bf16) (x2 : Vec Ideal S1x512x512 .f32)
    (x3 : Vec Ideal S1x512x1024 .f32) (x4 : Vec Ideal S1x512x512 .bf16) (x5 : Vec Ideal S1x512 .f32) (t c : Fin 512) :
    block x0 x1 x2 x3 x4 x5 (ix3 0 t c) =
      part (k0_pay4 (View.ld x0 r0_0) (View.ld x2 r0_2)) (k0_pay5 (View.ld x1 r0_1) (View.ld x3 r0_3)) (View.ld x4 r0_4) (ix2 t c) +
      part (k0_pay4 (View.ld x0 r0_0) (View.ld x2 r0_5)) (k0_pay5 (View.ld x1 r0_1) (View.ld x3 r0_6)) (View.ld x4 r0_7) (ix2 t c) +
      x5 (ix2 0 c) := by
  pointwise [block, k0_pay1, k0_pay235]

/-- One element of the output block: the attention's columns through the output weights, plus the bias. -/
theorem block_apply (T : Fin 512 → Fin 512 → EReal) (X : Fin 4096 → Fin 512 → EReal) (Wq Wk Wv Wo : Fin 512 → Fin 512 → EReal)
    (bo : Fin 512 → EReal) (x0 : Vec Ideal S1x512x512 .bf16) (x1 : Vec Ideal S1x4096x512 .bf16) (x2 : Vec Ideal S1x512x512 .f32)
    (x3 : Vec Ideal S1x512x1024 .f32) (x4 : Vec Ideal S1x512x512 .bf16) (x5 : Vec Ideal S1x512 .f32)
    (h0 : ∀ t f, x0 (ix3 0 t f) = T t f) (h1 : ∀ s f, x1 (ix3 0 s f) = X s f) (h2 : ∀ f n, x2 (ix3 0 f n) = Wq n f)
    (hk : ∀ f g (hg : g < 2) (j : Fin 256), x3 (ix3 0 f ⟨512 * g + j, by omega⟩) = Wk ⟨256 * g + j, by omega⟩ f)
    (hv : ∀ f g (hg : g < 2) (j : Fin 256), x3 (ix3 0 f ⟨512 * g + (256 + j), by omega⟩) = Wv ⟨256 * g + j, by omega⟩ f)
    (h4 : ∀ n c, x4 (ix3 0 n c) = Wo c n) (h5 : ∀ c, x5 (ix2 0 c) = bo c) (t c : Fin 512) :
    block x0 x1 x2 x3 x4 x5 (ix3 0 t c) = ∑ n : Fin 512, attend (rt : EReal) (T t) X Wq Wk Wv n * Wo c n + bo c := by
  have l0 : ∀ t f, View.ld x0 r0_0 (ix3 0 t f) = T t f := fun t f => by pointwise; exact h0 t f
  have l1 : ∀ s f, View.ld x1 r0_1 (ix3 0 s f) = X s f := fun s f => by pointwise; exact h1 s f
  have l2 : ∀ {n n' : Fin 512} (f : Fin 512), (n : ℕ) = n' → x2 (ix3 0 f n) = Wq n' f := fun f e => by rw [Fin.ext e, h2]
  have lk : ∀ g (hg : g < 2) (j : Fin 256) {n : Fin 1024} {n' : Fin 512} (f : Fin 512), (n : ℕ) = 512 * g + j →
      (n' : ℕ) = 256 * g + j → x3 (ix3 0 f n) = Wk n' f := fun g hg j ⟨n, hn⟩ ⟨n', hn'⟩ f e e' => by
    dsimp only at e e'
    subst e e'
    exact hk f g hg j
  have lv : ∀ g (hg : g < 2) (j : Fin 256) {n : Fin 1024} {n' : Fin 512} (f : Fin 512), (n : ℕ) = 512 * g + (256 + j) →
      (n' : ℕ) = 256 * g + j → x3 (ix3 0 f n) = Wv n' f := fun g hg j ⟨n, hn⟩ ⟨n', hn'⟩ f e e' => by
    dsimp only at e e'
    subst e e'
    exact hv f g hg j
  have l4 : ∀ {n n' : Fin 512} (c : Fin 512), (n : ℕ) = n' → x4 (ix3 0 n c) = Wo c n' := fun c e => by rw [Fin.ext e, h4]
  rw [block_split, h5, ← sum_groups,
    group_sum T X Wq Wk Wv Wo 0 (by omega) _ _ _ _ _ l0 l1 (fun f j => by pointwise; exact l2 f (by dsimp only))
      (fun f j => by pointwise; exact lk 0 (by omega) j f (by simp) (by simp))
      (fun f j => by pointwise; exact lv 0 (by omega) j f (by simp) (by simp))
      (fun j c => by pointwise; exact l4 c (by dsimp only)) t c,
    group_sum T X Wq Wk Wv Wo 1 (by omega) _ _ _ _ _ l0 l1 (fun f j => by pointwise; exact l2 f (by dsimp only))
      (fun f j => by pointwise; exact lk 1 (by omega) j f (by simp) (by simp))
      (fun f j => by pointwise; exact lv 1 (by omega) j f (by simp) (by simp))
      (fun j c => by pointwise; exact l4 c (by dsimp only)) t c]

end Cert.KernelIdeal.Hand

end
-- ==== Proof.Arrays.lean ====
/- What the kernel's windows hold at each grid point, in terms of the argument arrays, and what its result array ends as. -/
module

public import proofs.«01_k».proof.Proof.Projection
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Cert.KernelIdeal.Value Idealize.ShloMosaic Idealize.SL.Sem

variable (m : (ℓ : Loc nD τ sig) → Buf (Elt Ideal) ℓ)

/-- The targets' block index is the grid point. -/
theorem idx0 : ∀ t : Fin cfg0.N, win0_0.index t = ![(t : ℕ), 0, 0] := by decide +kernel
/-- The inputs' block index is the grid point. -/
theorem idx1 : ∀ t : Fin cfg0.N, win0_1.index t = ![(t : ℕ), 0, 0] := by decide +kernel
/-- The query weights are one block. -/
theorem idx2 : ∀ t : Fin cfg0.N, win0_2.index t = ![0, 0, 0] := by decide +kernel
/-- The key and value weights are one block. -/
theorem idx3 : ∀ t : Fin cfg0.N, win0_3.index t = ![0, 0, 0] := by decide +kernel
/-- The output weights are one block. -/
theorem idx4 : ∀ t : Fin cfg0.N, win0_4.index t = ![0, 0, 0] := by decide +kernel
/-- The output bias is one block. -/
theorem idx5 : ∀ t : Fin cfg0.N, win0_5.index t = ![0, 0] := by decide +kernel
/-- The result's block index is the grid point. -/
theorem idx6 : ∀ t : Fin cfg0.N, win0_6.index t = ![(t : ℕ), 0, 0] := by decide +kernel

/-- The targets' block holds the batch's targets. -/
theorem iblk0 (c : Dev nD) (t : Fin cfg0.N) (a f : Fin 512) :
    iblk m c 0 t (ix3 0 a f) = (m (c.tc.loc main_arg1) : Vec Ideal S8x512x512 .f32) (ix3 ⟨t, t.isLt⟩ a f) := by
  blk_simp [iblk]
  entry_read
  pointwise
  blk_ext [idx0 t]

/-- The inputs' block holds the batch's inputs. -/
theorem iblk1 (c : Dev nD) (t : Fin cfg0.N) (s : Fin 4096) (f : Fin 512) :
    iblk m c 1 t (ix3 0 s f) = (m (c.tc.loc main_arg0) : Vec Ideal S8x4096x512 .f32) (ix3 ⟨t, t.isLt⟩ s f) := by
  blk_simp [iblk]
  entry_read
  pointwise
  blk_ext [idx1 t]

/-- The query weights' array is the transposed weights. -/
theorem main_v3_apply (c : Dev nD) (f n : Fin 512) :
    (V m c main_v3 : Vec Ideal S1x512x512 .f32) (ix3 0 f n) = (m (c.tc.loc main_arg3) : Vec Ideal S512x512 .f32) (ix2 n f) := by
  entry_read
  pointwise

/-- The query weights' block holds the transposed weights. -/
theorem iblk2 (c : Dev nD) (t : Fin cfg0.N) (f n : Fin 512) :
    iblk m c 2 t (ix3 0 f n) = (m (c.tc.loc main_arg3) : Vec Ideal S512x512 .f32) (ix2 n f) := by
  rw [← main_v3_apply m c f n]
  blk_simp [iblk]
  blk_ext [idx2 t]

/-- The key and value weights' array: groups of 256 transposed key columns, each followed by its 256 value columns. -/
theorem main_v9_apply (c : Dev nD) (f : Fin 512) (n : Fin 1024) :
    (V m c main_v9 : Vec Ideal S1x512x1024 .f32) (ix3 0 f n) =
      if h : (n : ℕ) % 512 < 256 then
        (m (c.tc.loc main_arg5) : Vec Ideal S512x512 .f32) (ix2 ⟨(n : ℕ) / 512 * 256 + (n : ℕ) % 512, by omega⟩ f)
      else (m (c.tc.loc main_arg7) : Vec Ideal S512x512 .f32) (ix2 ⟨(n : ℕ) / 512 * 256 + ((n : ℕ) % 512 - 256), by omega⟩ f) := by
  entry_read
  pointwise

/-- The key and value weights' block is their array. -/
theorem iblk3 (c : Dev nD) (t : Fin cfg0.N) (f : Fin 512) (n : Fin 1024) :
    iblk m c 3 t (ix3 0 f n) = (V m c main_v9 : Vec Ideal S1x512x1024 .f32) (ix3 0 f n) := by
  blk_simp [iblk]
  blk_ext [idx3 t]

/-- The key columns of the key and value weights' block. -/
theorem iblk3_keys (c : Dev nD) (t : Fin cfg0.N) (f : Fin 512) (g : ℕ) (hg : g < 2) (j : Fin 256) :
    iblk m c 3 t (ix3 0 f (⟨512 * g + j, by omega⟩ : Fin 1024)) =
      (m (c.tc.loc main_arg5) : Vec Ideal S512x512 .f32) (ix2 ⟨256 * g + j, by omega⟩ f) := by
  rw [iblk3, main_v9_apply, dif_pos (by dsimp only; omega)]
  congr 2
  exact Fin.ext (by dsimp only; omega)

/-- The value columns of the key and value weights' block. -/
theorem iblk3_values (c : Dev nD) (t : Fin cfg0.N) (f : Fin 512) (g : ℕ) (hg : g < 2) (j : Fin 256) :
    iblk m c 3 t (ix3 0 f (⟨512 * g + (256 + j), by omega⟩ : Fin 1024)) =
      (m (c.tc.loc main_arg7) : Vec Ideal S512x512 .f32) (ix2 ⟨256 * g + j, by omega⟩ f) := by
  rw [iblk3, main_v9_apply, dif_neg (by dsimp only; omega)]
  congr 2
  exact Fin.ext (by dsimp only; omega)

/-- The output weights' array is the transposed weights. -/
theorem main_v12_apply (c : Dev nD) (n k : Fin 512) :
    (V m c main_v12 : Vec Ideal S1x512x512 .bf16) (ix3 0 n k) = (m (c.tc.loc main_arg9) : Vec Ideal S512x512 .f32) (ix2 k n) := by
  entry_read
  pointwise

/-- The output weights' block holds the transposed weights. -/
theorem iblk4 (c : Dev nD) (t : Fin cfg0.N) (n k : Fin 512) :
    iblk m c 4 t (ix3 0 n k) = (m (c.tc.loc main_arg9) : Vec Ideal S512x512 .f32) (ix2 k n) := by
  rw [← main_v12_apply m c n k]
  blk_simp [iblk]
  blk_ext [idx4 t]

/-- The output bias's array is the bias. -/
theorem main_v13_apply (c : Dev nD) (k : Fin 512) :
    (V m c main_v13 : Vec Ideal S1x512 .f32) (ix2 0 k) = (m (c.tc.loc main_arg10) : Vec Ideal S512 .f32) (ix1 k) := by
  entry_read
  pointwise

/-- The output bias's block holds the bias. -/
theorem iblk5 (c : Dev nD) (t : Fin cfg0.N) (k : Fin 512) :
    iblk m c 5 t (ix2 0 k) = (m (c.tc.loc main_arg10) : Vec Ideal S512 .f32) (ix1 k) := by
  rw [← main_v13_apply m c k]
  blk_simp [iblk]
  blk_ext [idx5 t]

/-- The kernel's result, element by element, from the arguments it reads: inputs, targets, the four weight matrices and the
    output bias. -/
def attention (inputs : Vec Ideal S8x4096x512 .f32) (targets : Vec Ideal S8x512x512 .f32) (wq wk wv wo : Vec Ideal S512x512 .f32)
    (bo : Vec Ideal S512 .f32) : Vec Ideal S8x512x512 .f32 := fun i =>
  ∑ n : Fin 512,
    attend (rt : EReal) (fun f => targets (ix3 (i 0) (i 1) f)) (fun s f => inputs (ix3 (i 0) s f)) (fun n f => wq (ix2 n f))
      (fun n f => wk (ix2 n f)) (fun n f => wv (ix2 n f)) n * wo (ix2 (i 2) n) + bo (ix1 (i 2))

/-- Where element `(a, b)` of the result's block stands in the result. -/
theorem emb6 (t : Fin cfg0.N) (a b : Fin 512) :
    (((View.whole main_v14).slice (win0_6.rect t)).emb (ix3 0 a b) : S8x512x512.Idx) = ix3 ⟨t, t.isLt⟩ a b := by
  blk_ext [idx6 t]

/-- The kernel's result array at the end. -/
theorem arrAt_eq (c : Dev nD) :
    (dats m 0 c).arrAt 6 cfg0.N = attention (m (c.tc.loc main_arg0)) (m (c.tc.loc main_arg1)) (m (c.tc.loc main_arg3))
      (m (c.tc.loc main_arg5)) (m (c.tc.loc main_arg7)) (m (c.tc.loc main_arg9)) (m (c.tc.loc main_arg10)) := by
  refine (dats m 0 c).arrAt_eq_of_covers 6 _ (by decide +kernel) fun t hf y => ?_
  blk_simp
  rw [after0_6, out0_6_eq]
  frame_out
  obtain ⟨a, b, rfl⟩ : ∃ a b : Fin 512, y = (ix3 0 a b : S1x512x512.Idx) := by
    refine ⟨y 1, y 2, ?_⟩
    refine (eq_ix3 (y : S1x512x512.Idx)).trans ?_
    congr 1
    exact Subsingleton.elim (α := Fin 1) _ _
  rw [emb6]
  exact block_apply (fun a f => m (c.tc.loc main_arg1) (ix3 ⟨t, t.isLt⟩ a f)) (fun s f => m (c.tc.loc main_arg0) (ix3 ⟨t, t.isLt⟩ s f))
    (fun n f => m (c.tc.loc main_arg3) (ix2 n f)) (fun n f => m (c.tc.loc main_arg5) (ix2 n f))
    (fun n f => m (c.tc.loc main_arg7) (ix2 n f)) (fun k n => m (c.tc.loc main_arg9) (ix2 k n)) (fun k => m (c.tc.loc main_arg10) (ix1 k))
    _ _ _ _ _ _ (iblk0 m c t) (iblk1 m c t) (iblk2 m c t) (iblk3_keys m c t) (iblk3_values m c t) (iblk4 m c t) (iblk5 m c t) a b

end Cert.KernelIdeal.Hand

end
-- ==== Proof.Reference.lean ====
/- The reference read in stages: projections, scores, weights and output, each element by element at the extended reals. -/
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen Idealize.ShloMosaic Idealize.SL.Sem

variable {F : FTy → Type} [FloatOps F]

/-- The projected queries, split into eight heads. -/
def queries (x : FVec F S8x512x512 .f32) (w : FVec F S512x512 .f32) (b : FVec F S512 .f32) : FVec F S8x512x8x64 .f32 :=
  shapeCast S8x512x8x64
    (addf (Host.dotGeneral dot_S8x512x512_S512x512_S8x512x512_2_0_01_1_n_n none x
        (transpose S512x512 [1, 0] w transposes_S512x512_S512x512_1_0))
      (broadcastInDim S8x512x512 ![0, 1, 2] bcast_S1x1x512_S8x512x512_0_1_2 (broadcastInDim S1x1x512 ![2] bcast_S512_S1x1x512_2 b)))
    shapeCasts_S8x512x512_S8x512x8x64

/-- The projected keys (or values), split into eight heads. -/
def rows (x : FVec F S8x4096x512 .f32) (w : FVec F S512x512 .f32) (b : FVec F S512 .f32) : FVec F S8x4096x8x64 .f32 :=
  shapeCast S8x4096x8x64
    (addf (Host.dotGeneral dot_S8x4096x512_S512x512_S8x4096x512_2_0_01_1_n_n none x
        (transpose S512x512 [1, 0] w transposes_S512x512_S512x512_1_0))
      (broadcastInDim S8x4096x512 ![0, 1, 2] bcast_S1x1x512_S8x4096x512_0_1_2 (broadcastInDim S1x1x512 ![2] bcast_S512_S1x1x512_2 b)))
    shapeCasts_S8x4096x512_S8x4096x8x64

/-- The scores: products of queries and keys over eight, plus the mask's term. -/
def scores (q : FVec F S8x512x8x64 .f32) (k : FVec F S8x4096x8x64 .f32) (mask : IVec S8x4096 1) : FVec F S8x8x512x4096 .f32 :=
  addf (Host.divf (Host.dotGeneral dot_S8x512x8x64_S8x4096x8x64_S8x8x512x4096_3_3_1_1_02_02 none q k)
      (broadcastInDim S8x8x512x4096 ![] bcast_S_S8x8x512x4096 (constant S_ .f32 0x41000000#32)))
    (broadcastInDim S8x8x512x4096 ![0, 1, 2, 3] bcast_S8x1x1x4096_S8x8x512x4096_0_1_2_3
      (broadcastInDim S8x1x1x4096 ![0, 3] bcast_S8x4096_S8x1x1x4096_0_3
        (mulf (subf (broadcastInDim S8x4096 ![] bcast_S_S8x4096 (constant S_ .f32 0x3F800000#32)) (uitofp .f32 mask))
          (broadcastInDim S8x4096 ![] bcast_S_S8x4096 (constant S_ .f32 0xE0AD78EC#32)))))

/-- The greatest score of each row. -/
def top (s : FVec F S8x8x512x4096 .f32) : FVec F S8x8x512 .f32 :=
  maximumf (broadcastInDim S8x8x512 ![] bcast_S_S8x8x512 (constant S_ .f32 0xFF800000#32))
    (Host.reduce FloatOps.maximumf s (constant S_ .f32 0xFF800000#32) reducesTo_S8x8x512x4096_S8x8x512_d3 h_S_)

/-- The exponentials of the scores, each row's greatest score taken away. -/
def exps (s : FVec F S8x8x512x4096 .f32) : FVec F S8x8x512x4096 .f32 :=
  Host.exp (subf s (broadcastInDim S8x8x512x4096 ![0, 1, 2, 3] bcast_S8x8x512x1_S8x8x512x4096_0_1_2_3
    (broadcastInDim S8x8x512x1 ![0, 1, 2] bcast_S8x8x512_S8x8x512x1_0_1_2 (top s))))

/-- The exponentials over their row sums. -/
def normed (e : FVec F S8x8x512x4096 .f32) : FVec F S8x8x512x4096 .f32 :=
  Host.divf e (broadcastInDim S8x8x512x4096 ![0, 1, 2, 3] bcast_S8x8x512x1_S8x8x512x4096_0_1_2_3
    (broadcastInDim S8x8x512x1 ![0, 1, 2] bcast_S8x8x512_S8x8x512x1_0_1_2
      (Host.reduceAdd e (constant S_ .f32 0x00000000#32) reducesTo_S8x8x512x4096_S8x8x512_d3 h_S_)))

/-- The weighted means of the values, the heads put together and projected. -/
def output (v : FVec F S8x4096x8x64 .f32) (a : FVec F S8x8x512x4096 .f32) (w : FVec F S512x512 .f32) (b : FVec F S512 .f32) :
    FVec F S8x512x512 .f32 :=
  addf (Host.dotGeneral dot_S8x512x512_S512x512_S8x512x512_2_0_01_1_n_n none
      (shapeCast S8x512x512
        (transpose S8x512x8x64 [0, 3, 1, 2]
          (Host.dotGeneral dot_S8x4096x8x64_S8x8x512x4096_S8x8x64x512_1_3_3_2_02_01 none v a)
          transposes_S8x8x64x512_S8x512x8x64_0_3_1_2)
        shapeCasts_S8x512x8x64_S8x512x512)
      (transpose S512x512 [1, 0] w transposes_S512x512_S512x512_1_0))
    (broadcastInDim S8x512x512 ![0, 1, 2] bcast_S1x1x512_S8x512x512_0_1_2 (broadcastInDim S1x1x512 ![2] bcast_S512_S1x1x512_2 b))

/-- The reference's result from its eleven arguments. -/
def result (a0 : FVec F S8x4096x512 .f32) (a1 : FVec F S8x512x512 .f32) (a2 : IVec S8x4096 1) (a3 : FVec F S512x512 .f32)
    (a4 : FVec F S512 .f32) (a5 : FVec F S512x512 .f32) (a6 : FVec F S512 .f32) (a7 : FVec F S512x512 .f32) (a8 : FVec F S512 .f32)
    (a9 : FVec F S512x512 .f32) (a10 : FVec F S512 .f32) : FVec F S8x512x512 .f32 :=
  output (rows a0 a7 a8) (normed (exps (scores (queries a1 a3 a4) (rows a0 a5 a6) a2))) a9 a10

/-- The generated run's result is the one written in stages. -/
theorem res_eq (m : (ℓ : Loc nD τ sig) → Buf (Elt F) ℓ) (c : Dev nD) :
    Value.res_main_v47 m c = result (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8))
      (m (c.tc.loc main_arg9)) (m (c.tc.loc main_arg10)) :=
  rfl

/-- A projected query: the sum over the features, plus the bias. -/
theorem queries_apply (x : FVec Ideal S8x512x512 .f32) (w : FVec Ideal S512x512 .f32) (b : FVec Ideal S512 .f32)
    (i : Fin 8) (t : Fin 512) (h : Fin 8) (e : Fin 64) :
    queries x w b (ix4 i t h e) =
      ∑ f : Fin 512, x (ix3 i t f) * w (ix2 ⟨h * 64 + e, by omega⟩ f) + b (ix1 ⟨h * 64 + e, by omega⟩) := by
  pointwise [queries]

/-- A projected key or value: the sum over the features, plus the bias. -/
theorem rows_apply (x : FVec Ideal S8x4096x512 .f32) (w : FVec Ideal S512x512 .f32) (b : FVec Ideal S512 .f32)
    (i : Fin 8) (t : Fin 4096) (h : Fin 8) (e : Fin 64) :
    rows x w b (ix4 i t h e) =
      ∑ f : Fin 512, x (ix3 i t f) * w (ix2 ⟨h * 64 + e, by omega⟩ f) + b (ix1 ⟨h * 64 + e, by omega⟩) := by
  pointwise [rows]

/-- A score: the product of a query and a key over eight, plus the mask's term. -/
theorem scores_apply (q : FVec Ideal S8x512x8x64 .f32) (k : FVec Ideal S8x4096x8x64 .f32) (mask : IVec S8x4096 1)
    (i h : Fin 8) (t : Fin 512) (s : Fin 4096) :
    scores q k mask (ix4 i h t s) =
      Ideal.div (∑ e : Fin 64, q (ix4 i t h e) * k (ix4 i s h e)) (Ideal.ofBits .f32 0x41000000#32) +
        (1 - FloatOps.uitofp (F := Ideal) .f32 (mask (ix2 i s))) * Ideal.ofBits .f32 0xE0AD78EC#32 := by
  pointwise [scores]

/-- The maximum of finitely many reals, taken from negative infinity, is below infinity and at least each of them. -/
theorem fold_max_real {ι : Type*} (s : Finset ι) (f : ι → EReal) (hf : ∀ i, ∃ r : ℝ, f i = r) :
    s.fold max ⊥ f ≠ ⊤ ∧ ∀ i ∈ s, f i ≤ s.fold max ⊥ f := by
  constructor
  · refine ne_of_lt ((Finset.fold_max_lt _).2 ⟨bot_lt_top, fun i _ => ?_⟩)
    obtain ⟨r, hr⟩ := hf i
    rw [hr]; exact EReal.coe_lt_top r
  · intro i hi
    exact (Finset.le_fold_max _).2 (Or.inr ⟨i, hi, le_rfl⟩)

/-- A maximum along axes, taken from negative infinity over reals, is a real wherever some index drops to it. -/
theorem reduce_max_real {s t u : Shape} {axes : List (Fin s.rank)} (x : FVec Ideal s .f32) (init : FVec Ideal u .f32)
    (h : s.ReducesTo axes t) (hu : 0 < u.numel) (j : t.Idx) (hi : ∀ i, init i = (⊥ : EReal))
    (hx : ∀ i, ∃ r : ℝ, x i = (r : EReal)) (k : s.Idx) (hk : h.drop k = j) :
    ∃ r : ℝ, Host.reduce FloatOps.maximumf x init h hu j = (r : EReal) := by
  have e : Host.reduce FloatOps.maximumf x init h hu j
      = (Finset.univ.filter fun i => h.drop i = j).fold (max : EReal → EReal → EReal) (init (Shape.Idx.first hu)) x :=
    Host.reduce_eq_fold (max : EReal → EReal → EReal) x init h hu j
  rw [e, hi]
  obtain ⟨h1, h2⟩ := fold_max_real (Finset.univ.filter fun i => h.drop i = j) x hx
  have hm := h2 k (Finset.mem_filter.2 ⟨Finset.mem_univ _, hk⟩)
  obtain ⟨r, hr⟩ := hx k
  have h3 : (Finset.univ.filter fun i => h.drop i = j).fold max (⊥ : EReal) x ≠ ⊥ := by
    intro h4
    rw [h4, hr] at hm
    exact absurd hm (not_le.2 (EReal.bot_lt_coe r))
  exact ⟨_, (EReal.coe_toReal h1 h3).symm⟩

/-- The greatest score is the maximum along the row, taken against the constant it starts from. -/
theorem top_eq (x : FVec F S8x8x512x4096 .f32) (j : S8x8x512.Idx) :
    top x j = FloatOps.maximumf (FloatOps.ofBits .f32 0xFF800000#32)
      (Host.reduce FloatOps.maximumf x (constant S_ .f32 0xFF800000#32) reducesTo_S8x8x512x4096_S8x8x512_d3 h_S_ j) :=
  rfl

/-- The pattern of negative infinity denotes it. -/
theorem neg_inf : (FloatOps.ofBits .f32 0xFF800000#32 : Ideal .f32) = (⊥ : EReal) := by
  simp [Ideal.ofBits, Ideal.ieee]

/-- The greatest score of a row of reals is a real. -/
theorem top_real (x : FVec Ideal S8x8x512x4096 .f32) (hx : ∀ j, ∃ r : ℝ, x j = (r : EReal)) (j : S8x8x512.Idx) :
    ∃ r : ℝ, top x j = (r : EReal) := by
  obtain ⟨k, hk⟩ : ∃ k, reducesTo_S8x8x512x4096_S8x8x512_d3.drop k = j :=
    ⟨_, (reducesTo_S8x8x512x4096_S8x8x512_d3.fiber_r4_a3 j _).2 ⟨⟨0, by omega⟩, rfl⟩⟩
  obtain ⟨r, hr⟩ := reduce_max_real x (constant S_ .f32 0xFF800000#32) reducesTo_S8x8x512x4096_S8x8x512_d3 h_S_ j
    (fun _ => neg_inf) hx k hk
  refine ⟨r, ?_⟩
  rw [top_eq, hr, neg_inf, Ideal.maximumf_def, max_eq_right bot_le]

/-- The exponential of a score, its row's greatest score taken away. -/
theorem exps_apply (x : FVec Ideal S8x8x512x4096 .f32) (i h : Fin 8) (t : Fin 512) (s : Fin 4096) :
    exps x (ix4 i h t s) = Ideal.exp (x (ix4 i h t s) - top x (ix3 i h t)) := by
  pointwise [exps]

/-- An exponential over the sum of its row. -/
theorem normed_apply (x : FVec Ideal S8x8x512x4096 .f32) (i h : Fin 8) (t : Fin 512) (s : Fin 4096) :
    normed x (ix4 i h t s) = Ideal.div (x (ix4 i h t s)) (∑ s' : Fin 4096, x (ix4 i h t s')) := by
  pointwise [normed]

/-- An element of the output: column by column the weighted means of the values, projected, plus the bias. -/
theorem output_apply (v : FVec Ideal S8x4096x8x64 .f32) (a : FVec Ideal S8x8x512x4096 .f32) (w : FVec Ideal S512x512 .f32)
    (b : FVec Ideal S512 .f32) (i : Fin 8) (t c : Fin 512) :
    output v a w b (ix3 i t c) =
      ∑ n : Fin 512, (∑ s : Fin 4096, v (ix4 i s ⟨n / 64, by omega⟩ ⟨n % 64, by omega⟩) * a (ix4 i ⟨n / 64, by omega⟩ t s)) *
        w (ix2 c n) + b (ix1 c) := by
  pointwise [output]

end Cert.ReferenceIdeal.Hand
-- ==== Proof.Domain.lean ====
/- What the precondition says of the arguments: which arrays are finite, which are zero, and that a row's mask is one bit. -/
module

public import proofs.«01_k».proof.Defs
public import proofs.«01_k».proof.Proof.Gen.Pre_supported
public import Idealize.ShloMosaic.Lib.Pointwise

@[expose] public section

set_option maxRecDepth 16384

noncomputable section

namespace Cert.Pre_supported.Hand

open Cert.Pre_supported Idealize.ShloMosaic Idealize.SL.Sem

/-- Two bits whose "and" is one are both one. -/
theorem and_one : ∀ b y : BitVec 1, IntOp.andi b y = 1#1 → b = 1#1 ∧ y = 1#1 := by decide

/-- A comparison's bit is one only when the comparison holds. -/
theorem ofBool_one : ∀ b : Bool, BitVec.ofBool b = 1#1 → b = true := by decide

/-- A list of bits folded by "and" is one only when the start and every bit is. -/
theorem foldl_andi {α : Type*} (l : List α) (f : α → BitVec 1) (b : BitVec 1)
    (h : l.foldl (fun r i => IntOp.andi r (f i)) b = 1#1) : b = 1#1 ∧ ∀ i ∈ l, f i = 1#1 := by
  induction l generalizing b with
  | nil => exact ⟨h, fun _ hi => absurd hi List.not_mem_nil⟩
  | cons a l ih =>
    obtain ⟨h1, h2⟩ := ih _ h
    have h3 : b = 1#1 ∧ f a = 1#1 := and_one b (f a) h1
    refine ⟨h3.1, fun i hi => ?_⟩
    rcases List.mem_cons.1 hi with rfl | hi
    · exact h3.2
    · exact h2 i hi

/-- A reduction by "and" to a single bit that is one says every bit is. -/
theorem all_of_reduce {s t u : Shape} {axes : List (Fin s.rank)} (x : IVec s 1) (init : IVec u 1) (h : s.ReducesTo axes t)
    (hu : 0 < u.numel) (ht : ∀ a b : t.Idx, a = b) (j : t.Idx) (e : Host.reduce IntOp.andi x init h hu j = 1#1) (i : s.Idx) :
    x i = 1#1 := by
  rw [Host.reduce_eq_foldl] at e
  refine (foldl_andi _ _ _ e).2 i (List.mem_filter.2 ⟨?_, decide_eq_true (ht _ _)⟩)
  exact List.mem_map.2 ⟨s.rowMajor i, List.mem_finRange _, s.rowMajor.symm_apply_apply i⟩

/-- An extended real whose absolute value is below infinity is a real. -/
theorem real_of_abs_lt (x : Ideal .f32)
    (h : FloatOps.cmpf .olt (FloatOps.hostAbsf x) (FloatOps.ofBits .f32 0x7F800000#32 : Ideal .f32) = 1#1) :
    ∃ r : ℝ, x = (r : EReal) := by
  have htop : (FloatOps.ofBits .f32 0x7F800000#32 : Ideal .f32) = (⊤ : EReal) := by simp [Ideal.ofBits, Ideal.ieee]
  rw [htop] at h
  have h1 : max x (-x) < (⊤ : EReal) := of_decide_eq_true (ofBool_one _ h)
  have h2 : x ≠ (⊤ : EReal) := (lt_of_le_of_lt (le_max_left _ _) h1).ne
  have h3 : x ≠ (⊥ : EReal) := by
    rintro rfl
    exact absurd (lt_of_le_of_lt (le_max_right _ _) h1) (by simp)
  exact ⟨_, (EReal.coe_toReal h2 h3).symm⟩

/-- An array every element of which compares below infinity in absolute value is an array of reals. -/
theorem reals_of_reduce {s t u : Shape} {axes : List (Fin s.rank)} (x : FVec Ideal s .f32) (y : FVec Ideal s .f32)
    (init : IVec u 1) (h : s.ReducesTo axes t) (hu : 0 < u.numel) (ht : ∀ a b : t.Idx, a = b)
    (hy : ∀ i, y i = (FloatOps.ofBits .f32 0x7F800000#32 : Ideal .f32)) (j : t.Idx)
    (e : Host.reduce IntOp.andi (cmpf .olt (Host.absf x) y) init h hu j = 1#1) : ∃ r : s.Idx → ℝ, ∀ i, x i = (r i : EReal) := by
  choose r hr using fun i => real_of_abs_lt (x i) (by
    have := all_of_reduce _ init h hu ht j e i
    rw [← hy i]; exact this)
  exact ⟨r, hr⟩

/-- An array every element of which compares equal to zero is zero. -/
theorem zero_of_reduce {s t u : Shape} {axes : List (Fin s.rank)} (x : FVec Ideal s .f32) (y : FVec Ideal s .f32)
    (init : IVec u 1) (h : s.ReducesTo axes t) (hu : 0 < u.numel) (ht : ∀ a b : t.Idx, a = b)
    (hy : ∀ i, y i = (FloatOps.ofBits .f32 0x00000000#32 : Ideal .f32)) (j : t.Idx)
    (e : Host.reduce IntOp.andi (cmpf .oeq x y) init h hu j = 1#1) (i : s.Idx) : x i = (0 : EReal) := by
  have h1 := all_of_reduce _ init h hu ht j e i
  have h2 : x i = y i := of_decide_eq_true (ofBool_one _ h1)
  rw [h2, hy]; exact Ideal.ofBits_zero_f32

/-- A mask every element of which compares equal to the first of its row is one bit along each row. -/
theorem mask_of_reduce (mask : IVec S8x4096 1) (y : IVec S8x4096 1) (init : IVec S_ 1)
    (h : S8x4096.ReducesTo [0, 1] S_) (hu : 0 < S_.numel) (hy : ∀ i s, y (ix2 i s) = mask (ix2 i 0)) (j : S_.Idx)
    (e : Host.reduce IntOp.andi (cmpi .eq mask y) init h hu j = 1#1) (i : Fin 8) (s : Fin 4096) :
    mask (ix2 i s) = mask (ix2 i 0) := by
  have h1 := all_of_reduce _ init h hu (fun a b => funext fun k => k.elim0) j e (ix2 i s)
  rw [← hy i s]
  exact of_decide_eq_true (ofBool_one _ h1)

/-- The first bit of each row, repeated along the row. -/
theorem first_of_row (a2 : IVec S8x4096 1) (i : Fin 8) (s : Fin 4096) :
    broadcastInDim S8x4096 ![0, 1] Facts.bcast_S8x1_S8x4096_0_1
      (extractStridedSlice S8x1 ![0, 0] a2 Facts.slices_S8x4096_S8x1_0_0) (ix2 i s) = a2 (ix2 i 0) := by
  pointwise

/-- What the precondition says of the eleven arrays. -/
structure Supported (a0 : FVec Ideal S8x4096x512 .f32) (a1 : FVec Ideal S8x512x512 .f32) (a2 : IVec S8x4096 1)
    (a3 : FVec Ideal S512x512 .f32) (a4 : FVec Ideal S512 .f32) (a5 : FVec Ideal S512x512 .f32) (a6 : FVec Ideal S512 .f32)
    (a8 : FVec Ideal S512 .f32) : Prop where
  /-- the inputs are reals -/
  inputs : ∃ r : S8x4096x512.Idx → ℝ, ∀ i, a0 i = (r i : EReal)
  /-- the targets are reals -/
  targets : ∃ r : S8x512x512.Idx → ℝ, ∀ i, a1 i = (r i : EReal)
  /-- the query weights are reals -/
  wq : ∃ r : S512x512.Idx → ℝ, ∀ i, a3 i = (r i : EReal)
  /-- the key weights are reals -/
  wk : ∃ r : S512x512.Idx → ℝ, ∀ i, a5 i = (r i : EReal)
  /-- the key bias is real -/
  bk : ∃ r : S512.Idx → ℝ, ∀ i, a6 i = (r i : EReal)
  /-- the query bias is zero -/
  bq : ∀ i, a4 i = (0 : EReal)
  /-- the value bias is zero -/
  bv : ∀ i, a8 i = (0 : EReal)
  /-- the mask is one bit along each row -/
  mask : ∀ i s, a2 (ix2 i s) = a2 (ix2 i 0)

/-- The precondition's eight bits being one gives the eight facts. -/
theorem supported_of_fn (a0 : FVec Ideal S8x4096x512 .f32) (a1 : FVec Ideal S8x512x512 .f32) (a2 : IVec S8x4096 1)
    (a3 : FVec Ideal S512x512 .f32) (a4 : FVec Ideal S512 .f32) (a5 : FVec Ideal S512x512 .f32) (a6 : FVec Ideal S512 .f32)
    (a7 : FVec Ideal S512x512 .f32) (a8 : FVec Ideal S512 .f32) (a9 : FVec Ideal S512x512 .f32) (a10 : FVec Ideal S512 .f32)
    (h : (fn a0 a1 a2 a3 a4 a5 a6 a7 a8 a9 a10).1 = (fun _ => 1#1)
      ∧ (fn a0 a1 a2 a3 a4 a5 a6 a7 a8 a9 a10).2.1 = (fun _ => 1#1)
      ∧ (fn a0 a1 a2 a3 a4 a5 a6 a7 a8 a9 a10).2.2.1 = (fun _ => 1#1)
      ∧ (fn a0 a1 a2 a3 a4 a5 a6 a7 a8 a9 a10).2.2.2.1 = (fun _ => 1#1)
      ∧ (fn a0 a1 a2 a3 a4 a5 a6 a7 a8 a9 a10).2.2.2.2.1 = (fun _ => 1#1)
      ∧ (fn a0 a1 a2 a3 a4 a5 a6 a7 a8 a9 a10).2.2.2.2.2.1 = (fun _ => 1#1)
      ∧ (fn a0 a1 a2 a3 a4 a5 a6 a7 a8 a9 a10).2.2.2.2.2.2.1 = (fun _ => 1#1)
      ∧ (fn a0 a1 a2 a3 a4 a5 a6 a7 a8 a9 a10).2.2.2.2.2.2.2 = (fun _ => 1#1)) :
    Supported a0 a1 a2 a3 a4 a5 a6 a8 := by
  dsimp only [fn, fn_part1] at h
  obtain ⟨h0, h1, h2, h3, h4, h5, h6, h7⟩ := h
  have hs : ∀ a b : S_.Idx, a = b := fun a b => funext fun k => k.elim0
  let j : S_.Idx := fun k => k.elim0
  exact
    { inputs := reals_of_reduce _ _ _ _ _ hs (fun _ => rfl) j (congrFun h0 j)
      targets := reals_of_reduce _ _ _ _ _ hs (fun _ => rfl) j (congrFun h1 j)
      wq := reals_of_reduce _ _ _ _ _ hs (fun _ => rfl) j (congrFun h2 j)
      wk := reals_of_reduce _ _ _ _ _ hs (fun _ => rfl) j (congrFun h3 j)
      bk := reals_of_reduce _ _ _ _ _ hs (fun _ => rfl) j (congrFun h4 j)
      bq := zero_of_reduce _ _ _ _ _ hs (fun _ => rfl) j (congrFun h5 j)
      bv := zero_of_reduce _ _ _ _ _ hs (fun _ => rfl) j (congrFun h6 j)
      mask := mask_of_reduce _ _ _ _ _ (first_of_row a2) j (congrFun h7 j) }

end Cert.Pre_supported.Hand
-- ==== Proof.Equal.lean ====
/- The equation: on supported arguments the reference computes the kernel's attention. -/
module

public import proofs.«01_k».proof.Proof.Arrays
public import proofs.«01_k».proof.Proof.Reference
public import proofs.«01_k».proof.Proof.Domain

@[expose] public section

set_option maxRecDepth 16384

noncomputable section

namespace Cert.Equal

open Cert.KernelIdeal.Hand Cert.ReferenceIdeal.Hand Idealize.ShloMosaic Idealize.SL.Sem
open Cert.ReferenceIdeal (S8x4096x512 S8x512x512 S8x4096 S512x512 S512 S8x8x512x4096)

/-- The pattern of eight denotes it. -/
theorem eight : Ideal.ofBits .f32 0x41000000#32 = ((8 : ℝ) : EReal) := by
  simp [Ideal.ofBits, Ideal.ieee]
  rw [← EReal.coe_mul]
  congr 1
  norm_num

/-- The mask's large negative pattern denotes a real. -/
theorem large : ∃ r : ℝ, Ideal.ofBits .f32 0xE0AD78EC#32 = (r : EReal) := by
  simp [Ideal.ofBits, Ideal.ieee]
  exact ⟨-(11368684 * 2 ^ 43), by rw [EReal.coe_neg, EReal.coe_mul, EReal.coe_pow]⟩

/-- The mask's term in a score is a real. -/
theorem mask_real (b : BitVec 1) :
    ∃ r : ℝ, ((1 : EReal) - FloatOps.uitofp (F := Ideal) .f32 b) * Ideal.ofBits .f32 0xE0AD78EC#32 = (r : EReal) := by
  obtain ⟨r, hr⟩ := large
  rw [hr]
  refine ⟨(1 - ((b.toNat : ℕ) : ℝ)) * r, ?_⟩
  rw [EReal.coe_mul, EReal.coe_sub]
  rfl

/-- A real query projection and its scaled one: both products of a score, read among the reals. -/
theorem score_real (q k : Fin 64 → Fin 512 → ℝ) (x y : Fin 512 → ℝ) :
    ∑ e : Fin 64, (∑ f, (x f : EReal) * ((q e f : EReal) * (rt : EReal))) * (∑ f, (y f : EReal) * ((k e f : EReal) * (rt : EReal))) =
      ((rt * rt * ∑ e : Fin 64, (∑ f, x f * q e f) * (∑ f, y f * k e f) : ℝ) : EReal) := by
  simp only [← EReal.coe_mul, ← coe_sum]
  congr 1
  rw [Finset.mul_sum]
  refine Finset.sum_congr rfl fun e _ => ?_
  have h : ∀ (u v : Fin 512 → ℝ), ∑ f, u f * (v f * rt) = (∑ f, u f * v f) * rt := fun u v => by
    rw [Finset.sum_mul]; exact Finset.sum_congr rfl fun f _ => by ring
  rw [h, h]; ring

/-- The reference's quotient of a score, with biased keys: an eighth of the unbiased product plus a real that does not depend on the key row. -/
theorem ref_score_real (q k : Fin 64 → Fin 512 → ℝ) (b : Fin 64 → ℝ) (x y : Fin 512 → ℝ) (δ : ℝ) :
    Ideal.div (∑ e : Fin 64, (∑ f, (x f : EReal) * (q e f : EReal) + 0) * (∑ f, (y f : EReal) * (k e f : EReal) + (b e : EReal)))
        ((8 : ℝ) : EReal) + (δ : EReal) =
      (((∑ e : Fin 64, (∑ f, x f * q e f) * (∑ f, y f * k e f)) / 8 + ((∑ e : Fin 64, (∑ f, x f * q e f) * b e) / 8 + δ) : ℝ) : EReal) := by
  simp only [add_zero, ← EReal.coe_mul, ← EReal.coe_add, ← coe_sum]
  rw [Ideal.div_coe (by norm_num), ← EReal.coe_mul, ← EReal.coe_add]
  congr 1
  simp only [mul_add, Finset.sum_add_distrib]
  ring

/-- The unscaled score of query row `t` and key row `s` in head `h` of batch `b`. -/
def score (T : S8x512x512.Idx → ℝ) (X : S8x4096x512.Idx → ℝ) (Q K : S512x512.Idx → ℝ) (b h : Fin 8) (t : Fin 512) (s : Fin 4096) : ℝ :=
  ∑ e : Fin 64, (∑ f, T (ix3 b t f) * Q (ix2 ⟨h * 64 + e, by omega⟩ f)) * (∑ f, X (ix3 b s f) * K (ix2 ⟨h * 64 + e, by omega⟩ f))

section

variable {a0 : FVec Ideal S8x4096x512 .f32} {a1 : FVec Ideal S8x512x512 .f32} {a2 : IVec S8x4096 1}
  {a3 : FVec Ideal S512x512 .f32} {a4 : FVec Ideal S512 .f32} {a5 : FVec Ideal S512x512 .f32} {a6 : FVec Ideal S512 .f32}
  {X : S8x4096x512.Idx → ℝ} {T : S8x512x512.Idx → ℝ} {Q K : S512x512.Idx → ℝ} {B : S512.Idx → ℝ}

/-- The reference's scores along a row: an eighth of the unscaled scores plus one real. -/
theorem scores_row (hX : ∀ i, a0 i = (X i : EReal)) (hT : ∀ i, a1 i = (T i : EReal)) (hQ : ∀ i, a3 i = (Q i : EReal))
    (hK : ∀ i, a5 i = (K i : EReal)) (hB : ∀ i, a6 i = (B i : EReal)) (h4 : ∀ i, a4 i = (0 : EReal))
    (h2 : ∀ i s, a2 (ix2 i s) = a2 (ix2 i 0)) (b h : Fin 8) (t : Fin 512) :
    ∃ δ : ℝ, ∀ s : Fin 4096, scores (queries a1 a3 a4) (rows a0 a5 a6) a2 (ix4 b h t s) =
      ((score T X Q K b h t s / 8 + δ : ℝ) : EReal) := by
  obtain ⟨r, hr⟩ := mask_real (a2 (ix2 b 0))
  refine ⟨(∑ e : Fin 64, (∑ f, T (ix3 b t f) * Q (ix2 ⟨h * 64 + e, by omega⟩ f)) * B (ix1 ⟨h * 64 + e, by omega⟩)) / 8 + r, fun s => ?_⟩
  rw [scores_apply, h2, hr, eight]
  simp only [Cert.ReferenceIdeal.Hand.queries_apply, rows_apply, hX, hT, hQ, hK, hB, h4]
  exact ref_score_real (fun e f => Q (ix2 ⟨h * 64 + e, by omega⟩ f)) (fun e f => K (ix2 ⟨h * 64 + e, by omega⟩ f))
    (fun e => B (ix1 ⟨h * 64 + e, by omega⟩)) (fun f => T (ix3 b t f)) (fun f => X (ix3 b s f)) r

/-- One column of the attention: the kernel's mean is the reference's softmax-weighted mean of the values. -/
theorem attend_eq (hX : ∀ i, a0 i = (X i : EReal)) (hT : ∀ i, a1 i = (T i : EReal)) (hQ : ∀ i, a3 i = (Q i : EReal))
    (hK : ∀ i, a5 i = (K i : EReal)) (hB : ∀ i, a6 i = (B i : EReal)) (h4 : ∀ i, a4 i = (0 : EReal))
    (h2 : ∀ i s, a2 (ix2 i s) = a2 (ix2 i 0)) (a7 : FVec Ideal S512x512 .f32) (b : Fin 8) (t n : Fin 512) :
    attend (rt : EReal) (fun f => a1 (ix3 b t f)) (fun s f => a0 (ix3 b s f)) (fun n f => a3 (ix2 n f)) (fun n f => a5 (ix2 n f))
        (fun n f => a7 (ix2 n f)) n =
      ∑ s : Fin 4096, (∑ f, a0 (ix3 b s f) * a7 (ix2 n f)) *
        normed (exps (scores (queries a1 a3 a4) (rows a0 a5 a6) a2)) (ix4 b ⟨n / 64, by omega⟩ t s) := by
  have hcol : ∀ e : Fin 64, headCol n e = ⟨(n : ℕ) / 64 * 64 + e, by omega⟩ := fun e => Fin.ext (by dsimp only [headCol]; omega)
  obtain ⟨M, hM⟩ := top_real (scores (queries a1 a3 a4) (rows a0 a5 a6) a2) (fun j => by
    obtain ⟨b, h, t, s, rfl⟩ : ∃ b h t s, j = ix4 b h t s := ⟨_, _, _, _, eq_ix4 j⟩
    obtain ⟨δ, hδ⟩ := scores_row hX hT hQ hK hB h4 h2 b h t
    exact ⟨_, hδ s⟩) (ix3 b ⟨n / 64, by omega⟩ t)
  obtain ⟨δ, hδ⟩ := scores_row hX hT hQ hK hB h4 h2 b ⟨n / 64, by omega⟩ t
  simp only [normed_apply, exps_apply, hM]
  refine mean_eq_softmax (score T X Q K b ⟨n / 64, by omega⟩ t) _ _ δ M _ (fun s => ?_) hδ
  simp only [hcol, hX, hT, hQ, hK]
  exact score_real _ _ _ _

end

/-- On supported arguments the reference's result is the kernel's attention. -/
theorem result_eq (a0 : FVec Ideal S8x4096x512 .f32) (a1 : FVec Ideal S8x512x512 .f32) (a2 : IVec S8x4096 1)
    (a3 : FVec Ideal S512x512 .f32) (a4 : FVec Ideal S512 .f32) (a5 : FVec Ideal S512x512 .f32) (a6 : FVec Ideal S512 .f32)
    (a7 : FVec Ideal S512x512 .f32) (a8 : FVec Ideal S512 .f32) (a9 : FVec Ideal S512x512 .f32) (a10 : FVec Ideal S512 .f32)
    (h : Cert.Pre_supported.Hand.Supported a0 a1 a2 a3 a4 a5 a6 a8) :
    result a0 a1 a2 a3 a4 a5 a6 a7 a8 a9 a10 = attention a0 a1 a3 a5 a7 a9 a10 := by
  obtain ⟨X, hX⟩ := h.inputs
  obtain ⟨T, hT⟩ := h.targets
  obtain ⟨Q, hQ⟩ := h.wq
  obtain ⟨K, hK⟩ := h.wk
  obtain ⟨B, hB⟩ := h.bk
  funext i
  obtain ⟨b, t, c, rfl⟩ : ∃ b t c, i = ix3 b t c := ⟨_, _, _, eq_ix3 i⟩
  rw [result, output_apply]
  refine congrArg₂ (· + ·) (Finset.sum_congr rfl fun n _ => congrArg (· * a9 (ix2 c n)) ?_) rfl
  refine Eq.trans ?_ (attend_eq hX hT hQ hK hB h.bq h.mask a7 b t n).symm
  refine Finset.sum_congr rfl fun s _ => congrArg (· * _) ?_
  rw [rows_apply, h.bv, add_zero]
  refine Finset.sum_congr rfl fun f _ => congrArg (fun k => a0 (ix3 b s f) * a7 (ix2 k f)) (Fin.ext ?_)
  dsimp only; omega

end Cert.Equal

end
-- ==== Proof.lean ====
/- The claims: the kernel and its exact form leave their arguments alone and end with every semaphore at zero, the exact form
   names one constant, and on supported arguments it computes the reference's result. -/
module

public import proofs.«01_k».proof.Defs
public import proofs.«01_k».proof.Proof.Equal
public import proofs.«01_k».proof.Proof.Gen.Kernel.Frame
public import Idealize.ShloMosaic.Adequacy
public import Idealize.ShloMosaic.Init
public import Idealize.ShloMosaic.Lib.Quiescent

@[expose] public section

noncomputable section

namespace Cert.Proof

open Idealize.ShloMosaic Idealize.SL.Sem

/-- The kernel runs, leaves its arguments unchanged and every semaphore at zero. -/
theorem frame_p : Cert.quiescent_Kernel := fun m ρ _ => Cert.Kernel.Gen.frame m ρ

/-- The exact kernel runs, leaves its arguments unchanged and every semaphore at zero. -/
theorem frame_pi : Cert.quiescent_KernelIdeal := fun m ρ _ => Cert.KernelIdeal.Gen.frame m ρ

/-- The same from supported arguments. -/
theorem frame_pi_supported : Cert.quiescent_KernelIdeal_pre_supported := fun m ρ _ => Cert.KernelIdeal.Gen.frame m ρ

/-- The reference runs, leaves its arguments unchanged and every semaphore at zero. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from supported arguments. -/
theorem frame_ri_supported : Cert.quiescent_ReferenceIdeal_pre_supported := fun m ρ _ => frame_ri m ρ trivial

/-- The exact kernel differs from the kernel only in its named constant, the root of one over eight times the logarithm of two. -/
theorem preserves : Cert.preserves_Kernel_KernelIdeal :=
  IdealRules.named_const.statement Cert.KernelIdeal.κ "rt" .f32 0x3ED96D27#32
    ((Real.sqrt ((8 * (Real.log 2))⁻¹) : ℝ) : EReal) rfl

/-- On supported arguments the exact kernel and the reference end with equal results. -/
theorem algebraic : Cert.algebraic_KernelIdeal_ReferenceIdeal_pre_supported := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Hand.res_eq, h0, h1, h2, h3, h4, h5, h6, h7, h8, h9, h10, Cert.KernelIdeal.Hand.arrAt_eq m c]
  exact Cert.Equal.result_eq _ _ _ _ _ _ _ _ _ _ _ (Cert.Pre_supported.Hand.supported_of_fn _ _ _ _ _ _ _ _ _ _ _ (hpre c))

/-- Everything claimed, behind the programs' stated facts. -/
theorem claim : Cert.Claim :=
  ⟨Cert.Kernel.Gen.facts, Cert.KernelIdeal.Gen.facts, Cert.ReferenceIdeal.Gen.facts, Cert.Pre_supported.Gen.facts,
    frame_p, frame_pi, frame_pi_supported, frame_ri, frame_ri_supported, preserves, algebraic⟩

end Cert.Proof

end
